-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x256x256 : Shape := ⟨4, ![8, 32, 256, 256]⟩
abbrev S8x16x256x256 : Shape := ⟨4, ![8, 16, 256, 256]⟩
abbrev S8x256x256 : Shape := ⟨3, ![8, 256, 256]⟩
abbrev S1x32x256x256 : Shape := ⟨4, ![1, 32, 256, 256]⟩
abbrev S1x16x256x256 : Shape := ⟨4, ![1, 16, 256, 256]⟩
abbrev S1x256x256 : Shape := ⟨3, ![1, 256, 256]⟩
abbrev S32x256x256 : Shape := ⟨3, ![32, 256, 256]⟩
abbrev S8x32 : Shape := ⟨2, ![8, 32]⟩
abbrev S1x32 : Shape := ⟨2, ![1, 32]⟩
abbrev S32 : Shape := ⟨1, ![32]⟩
abbrev S32x1x1 : Shape := ⟨3, ![32, 1, 1]⟩
abbrev S256x256 : Shape := ⟨2, ![256, 256]⟩
abbrev S16x256x256 : Shape := ⟨3, ![16, 256, 256]⟩
abbrev S256x128 : Shape := ⟨2, ![256, 128]⟩
abbrev S32x8x256 : Shape := ⟨3, ![32, 8, 256]⟩
abbrev S16x8x256 : Shape := ⟨3, ![16, 8, 256]⟩
abbrev S128x256 : Shape := ⟨2, ![128, 256]⟩
abbrev S32x8x128 : Shape := ⟨3, ![32, 8, 128]⟩
abbrev S32x128 : Shape := ⟨2, ![32, 128]⟩
abbrev S128x16 : Shape := ⟨2, ![128, 16]⟩
abbrev S32x16 : Shape := ⟨2, ![32, 16]⟩
abbrev S16 : Shape := ⟨1, ![16]⟩
abbrev S1x16 : Shape := ⟨2, ![1, 16]⟩

abbrev nBuf : Space → Nat
  | .hbm => 3
  | .vmem => 8
  | .smem => 0
  | _ => 0

abbrev bufTy : (tb : Table) → Fin (tcTables nBuf tb) → BufTy
  | .hbm, ⟨0, _⟩ => ⟨S8x32x256x256, .i32⟩
  | .hbm, ⟨1, _⟩ => ⟨S8x16x256x256, .i32⟩
  | .hbm, ⟨2, _⟩ => ⟨S8x256x256, .f32⟩
  | .local _ .vmem, ⟨0, _⟩ => ⟨S1x32x256x256, .i32⟩
  | .local _ .vmem, ⟨1, _⟩ => ⟨S1x32x256x256, .i32⟩
  | .local _ .vmem, ⟨2, _⟩ => ⟨S1x16x256x256, .i32⟩
  | .local _ .vmem, ⟨3, _⟩ => ⟨S1x16x256x256, .i32⟩
  | .local _ .vmem, ⟨4, _⟩ => ⟨S1x256x256, .f32⟩
  | .local _ .vmem, ⟨5, _⟩ => ⟨S1x256x256, .f32⟩
  | .local _ .vmem, ⟨6, _⟩ => ⟨S32x256x256, .f32⟩
  | .local _ .vmem, ⟨7, _⟩ => ⟨S8x32, .f32⟩
  | _, _ => ⟨S8x32x256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 4 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 4 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x32x256x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x32x256x256 : Shape := ⟨4, ![8, 32, 256, 256]⟩
abbrev S8x16x256x256 : Shape := ⟨4, ![8, 16, 256, 256]⟩
abbrev S_ : Shape := ⟨0, ![]⟩
abbrev S8x32x16 : Shape := ⟨3, ![8, 32, 16]⟩
abbrev S8x16 : Shape := ⟨2, ![8, 16]⟩
abbrev S8x1x16 : Shape := ⟨3, ![8, 1, 16]⟩
abbrev S8x32 : Shape := ⟨2, ![8, 32]⟩
abbrev S8x256x256 : Shape := ⟨3, ![8, 256, 256]⟩

abbrev nBuf : Space → Nat
  | .hbm => 38
  | .vmem => 0
  | .smem => 0
  | _ => 0

abbrev bufTy : (tb : Table) → Fin (tcTables nBuf tb) → BufTy
  | .hbm, ⟨0, _⟩ => ⟨S8x32x256x256, .i32⟩
  | .hbm, ⟨1, _⟩ => ⟨S8x16x256x256, .i32⟩
  | .hbm, ⟨2, _⟩ => ⟨S_, .i32⟩
  | .hbm, ⟨3, _⟩ => ⟨S8x32x256x256, .i32⟩
  | .hbm, ⟨4, _⟩ => ⟨S8x32x256x256, .i1⟩
  | .hbm, ⟨5, _⟩ => ⟨S8x32x256x256, .f32⟩
  | .hbm, ⟨6, _⟩ => ⟨S_, .i32⟩
  | .hbm, ⟨7, _⟩ => ⟨S8x16x256x256, .i32⟩
  | .hbm, ⟨8, _⟩ => ⟨S8x16x256x256, .i1⟩
  | .hbm, ⟨9, _⟩ => ⟨S8x16x256x256, .f32⟩
  | .hbm, ⟨10, _⟩ => ⟨S8x32x16, .f32⟩
  | .hbm, ⟨11, _⟩ => ⟨S_, .f32⟩
  | .hbm, ⟨12, _⟩ => ⟨S8x16, .f32⟩
  | .hbm, ⟨13, _⟩ => ⟨S8x1x16, .f32⟩
  | .hbm, ⟨14, _⟩ => ⟨S8x32x16, .f32⟩
  | .hbm, ⟨15, _⟩ => ⟨S8x32x16, .f32⟩
  | .hbm, ⟨16, _⟩ => ⟨S8x32x16, .f32⟩
  | .hbm, ⟨17, _⟩ => ⟨S_, .f32⟩
  | .hbm, ⟨18, _⟩ => ⟨S8x32x16, .f32⟩
  | .hbm, ⟨19, _⟩ => ⟨S8x32x16, .i1⟩
  | .hbm, ⟨20, _⟩ => ⟨S_, .f32⟩
  | .hbm, ⟨21, _⟩ => ⟨S_, .f32⟩
  | .hbm, ⟨22, _⟩ => ⟨S8x32x16, .f32⟩
  | .hbm, ⟨23, _⟩ => ⟨S8x32x16, .f32⟩
  | .hbm, ⟨24, _⟩ => ⟨S_, .f32⟩
  | .hbm, ⟨25, _⟩ => ⟨S8x32, .f32⟩
  | .hbm, ⟨26, _⟩ => ⟨S8x256x256, .f32⟩
  | .hbm, ⟨27, _⟩ => ⟨S_, .f32⟩
  | .hbm, ⟨28, _⟩ => ⟨S8x256x256, .f32⟩
  | .hbm, ⟨29, _⟩ => ⟨S8x256x256, .f32⟩
  | .hbm, ⟨30, _⟩ => ⟨S8x256x256, .f32⟩
  | .hbm, ⟨31, _⟩ => ⟨S_, .f32⟩
  | .hbm, ⟨32, _⟩ => ⟨S8x256x256, .f32⟩
  | .hbm, ⟨33, _⟩ => ⟨S8x256x256, .i1⟩
  | .hbm, ⟨34, _⟩ => ⟨S_, .f32⟩
  | .hbm, ⟨35, _⟩ => ⟨S_, .f32⟩
  | .hbm, ⟨36, _⟩ => ⟨S8x256x256, .f32⟩
  | .hbm, ⟨37, _⟩ => ⟨S8x256x256, .f32⟩
  | _, _ => ⟨S8x32x256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Proof.Buffers.lean ====
/-
  What one grid point of the kernel leaves in its two carried scratch buffers and in the output's staging buffer,
  as terms of the input blocks.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Cholec

open Cert.KernelIdeal Cert.KernelIdeal.Gen Idealize.ShloMosaic Idealize.ShloMosaic.TcCoe Idealize.SL.Sem
open Idealize.ShloMosaic.Pipeline (Dat)

variable {F : FTy → Type} [FloatOps F]

/-- The accumulator after the 32 row chunks: from the block of predicted groups `x0` and that of true groups `x1`, the
    sum over the chunks of the products of the chunks' masks. -/
def acc (x0 : Vec F S1x32x256x256 .i32) (x1 : Vec F S1x16x256x256 .i32) : FVec F S256x128 .f32 :=
  let gp := k0_pay4 (F := F) x0
  let gt := k0_pay5 (F := F) x1
  let a1 := k0_pay7 gp gt (k0_pay6 x0 x1)
  let a2 := k0_pay10 gp gt a1 (k0_pay8 gp) (k0_pay9 gt)
  let a3 := k0_pay13 gp gt a2 (k0_pay11 gp) (k0_pay12 gt)
  let a4 := k0_pay14 gp gt a3
  k0_pay17 gp gt a4 (k0_pay15 gp) (k0_pay16 gt)

/-- The weights that a point stores into its second scratch buffer: the largest ratio over the true groups, one per
    predicted group, repeated over eight rows. -/
def wts (x0 : Vec F S1x32x256x256 .i32) (x1 : Vec F S1x16x256x256 .i32) : FVec F S8x32 .f32 :=
  k0_pay3 (k0_pay20 (k0_pay5 x1) (acc x0 x1) k0_pay18 (Scalar.ofBits .f32 0x00000000#32))
    (Scalar.ofBits .f32 0x00000000#32) (k0_pay21 (k0_pay5 x1))

/-- Row 0 of the weights, as the body loads it. -/
def row0 (w : Vec F S8x32 .f32) : Vec F S1x32 .f32 := fun i => w (ix2 (0 : Fin 8) (i 1))

/-- The body's load of the weights reads row 0. -/
theorem ld_row0 (w : Vec F S8x32 .f32) :
    View.ld w (Rect.unit (s := S8x32) ![0, 0] S1x32.size inb_S8x32_S1x32_0_0) = row0 w := by
  funext x
  refine View.ld_unit_apply_of w _ _ _ x _ fun a => ?_
  have h0 : (x 0).val = 0 := Nat.lt_one_iff.mp (x 0).isLt
  fin_cases a
  · show 0 = 0 + (x 0).val
    rw [h0]
  · exact (Nat.zero_add _).symm

variable (m : (ℓ : Loc nD τ sig) → Buf (Elt F) ℓ)

/-- The first scratch buffer after a point below 8 holds the mask of that point's block of predicted groups. -/
theorem scratch0 (c : Dev nD) (t : Fin cfg0.N) (h1 : t.val < 8) :
    (outsAt0 m c t.val t.isLt).2.1 = k0_pay2 (k0_pay4 (iblk m c 0 t)) := by
  by_cases h0 : 1 ≤ t.val
  · rw [outsAt0_B m c t h0 h1]
    dsimp only
    frame_out
  · rw [outsAt0_A m c t h0 h1]
    dsimp only
    frame_out

/-- The second scratch buffer after a point below 8 holds the weights of that point's blocks. -/
theorem scratch1 (c : Dev nD) (t : Fin cfg0.N) (h1 : t.val < 8) :
    (outsAt0 m c t.val t.isLt).2.2 = wts (iblk m c 0 t) (iblk m c 1 t) := by
  by_cases h0 : 1 ≤ t.val
  · rw [outsAt0_B m c t h0 h1]
    dsimp only
    frame_out
    rfl
  · rw [outsAt0_A m c t h0 h1]
    dsimp only
    frame_out
    rfl

/-- The output's staging buffer after a point from 1 on: the scores, from what the point before left in the scratch. -/
theorem out_at (c : Dev nD) (t : Fin cfg0.N) (h0 : 1 ≤ t.val) :
    (outsAt0 m c t.val t.isLt).1
      = k0_pay1 (outsAt0 m c (t.val - 1) (Nat.lt_of_le_of_lt (Nat.sub_le _ _) t.isLt)).2.1
          (row0 (outsAt0 m c (t.val - 1) (Nat.lt_of_le_of_lt (Nat.sub_le _ _) t.isLt)).2.2) := by
  by_cases h1 : t.val < 8
  · rw [outsAt0_B m c t h0 h1]
    dsimp only
    frame_out
    refine congrArg₂ k0_pay1 (read_unread_whole _ _ _) ?_
    rw [read_unread_whole]
    exact ld_row0 _
  · rw [outsAt0_C m c t h0 h1]
    dsimp only
    frame_out
    refine congrArg₂ k0_pay1 (read_unread_whole _ _ _) ?_
    rw [read_unread_whole]
    exact ld_row0 _

end Cert.Cholec

end
-- ==== Proof.Final.lean ====
/-
  What the kernel's result array holds after the launch: batch entry `n` is the score block computed from batch entry
  `n` of the two arguments, although it is written back one grid point after those blocks were read.
-/
module

public import proofs.«01_k».proof.Proof.Buffers

@[expose] public section

set_option maxRecDepth 16384

noncomputable section

namespace Cert.Cholec

open Cert.KernelIdeal Cert.KernelIdeal.Gen Idealize.ShloMosaic Idealize.ShloMosaic.TcCoe Idealize.SL.Sem
open Idealize.ShloMosaic.Pipeline (Dat)

variable {F : FTy → Type} [FloatOps F]

/-- Batch entry `n` of the predicted groups, as a block. -/
def gpBlk (A : Vec F S8x32x256x256 .i32) (n : Fin 8) : Vec F S1x32x256x256 .i32 := fun j => A (ix4 n (j 1) (j 2) (j 3))

/-- Batch entry `n` of the true groups, as a block. -/
def gtBlk (A : Vec F S8x16x256x256 .i32) (n : Fin 8) : Vec F S1x16x256x256 .i32 := fun j => A (ix4 n (j 1) (j 2) (j 3))

/-- The score block of one batch entry, from its two argument blocks. -/
def score (x0 : Vec F S1x32x256x256 .i32) (x1 : Vec F S1x16x256x256 .i32) : FVec F S1x256x256 .f32 :=
  k0_pay1 (k0_pay2 (k0_pay4 x0)) (row0 (wts x0 x1))

/-- The whole result: every batch entry's score block. -/
def result (A : Vec F S8x32x256x256 .i32) (B : Vec F S8x16x256x256 .i32) : Vec F S8x256x256 .f32 :=
  fun i => score (gpBlk A (i 0)) (gtBlk B (i 0)) (ix3 (0 : Fin 1) (i 1) (i 2))

variable (m : (ℓ : Loc nD τ sig) → Buf (Elt F) ℓ)

theorem index0 : ∀ t : Fin cfg0.N, t.val < 8 → win0_0.index t = ![t.val, 0, 0, 0] :=
  (by decide +kernel : ∀ t : Fin grid0.N, t.val < 8 → win0_0.index t = ![t.val, 0, 0, 0])

theorem index1 : ∀ t : Fin cfg0.N, t.val < 8 → win0_1.index t = ![t.val, 0, 0, 0] :=
  (by decide +kernel : ∀ t : Fin grid0.N, t.val < 8 → win0_1.index t = ![t.val, 0, 0, 0])

theorem index2 : ∀ t : Fin cfg0.N, win0_2.index t = ![t.val - 1, 0, 0] :=
  (by decide +kernel : ∀ t : Fin grid0.N, win0_2.index t = ![t.val - 1, 0, 0])

theorem flush_pos : ∀ t : Fin cfg0.N, (cfg0.win 2).flush t = true → 1 ≤ t.val :=
  (by decide +kernel : ∀ t : Fin grid0.N, win0_2.flush t = true → 1 ≤ t.val)

/-- The block of predicted groups staged at a point below 8 is that batch entry. -/
theorem iblk0_eq (c : Dev nD) (t : Fin cfg0.N) (h : t.val < 8) :
    iblk m c 0 t = gpBlk (m ((c.tc : Thread nD τ).loc main_arg0)) ⟨t.val, h⟩ := by
  funext j
  have e := index0 t h
  have h0 : (j 0).val = 0 := Nat.lt_one_iff.mp (j 0).isLt
  blk_simp [iblk, e]
  unfold gpBlk
  refine congrArg (m ((c.tc : Thread nD τ).loc main_arg0)) ?_
  blk_ext [e]

/-- The block of true groups staged at a point below 8 is that batch entry. -/
theorem iblk1_eq (c : Dev nD) (t : Fin cfg0.N) (h : t.val < 8) :
    iblk m c 1 t = gtBlk (m ((c.tc : Thread nD τ).loc main_arg1)) ⟨t.val, h⟩ := by
  funext j
  have e := index1 t h
  have h0 : (j 0).val = 0 := Nat.lt_one_iff.mp (j 0).isLt
  blk_simp [iblk, e]
  unfold gtBlk
  refine congrArg (m ((c.tc : Thread nD τ).loc main_arg1)) ?_
  blk_ext [e]

/-- The result array after the launch is `result` of the two arguments. -/
theorem final (c : Dev nD) :
    (dats m 0 c).arrAt 2 cfg0.N
      = result (m ((c.tc : Thread nD τ).loc main_arg0)) (m ((c.tc : Thread nD τ).loc main_arg1)) := by
  refine (dats m 0 c).arrAt_eq_of_covers 2 _ (by decide +kernel) fun t hf y => ?_
  have h1 := flush_pos t hf
  have hlt : t.val < 9 := lt_of_lt_of_eq t.isLt N_0
  have h8 : t.val - 1 < 8 := by omega
  have e := index2 t
  blk_simp [e]
  rw [after0_2, out_at m c t h1]
  have hs := scratch0 m c ⟨t.val - 1, by omega⟩ h8
  have hw := scratch1 m c ⟨t.val - 1, by omega⟩ h8
  dsimp only at hs hw
  rw [hs, hw, iblk0_eq m c _ h8, iblk1_eq m c _ h8]
  have y0 : (y 0).val = 0 := Nat.lt_one_iff.mp (y 0).isLt
  have e0 : (win0_2.blk t).view.emb y 0 = (⟨t.val - 1, h8⟩ : Fin 8) := Fin.ext (by
    blk_simp [e])
  have e12 : y = ix3 (0 : Fin 1) ((win0_2.blk t).view.emb y 1) ((win0_2.blk t).view.emb y 2) := by
    blk_ext [e]
  unfold result score
  rw [e0]
  exact congrArg _ e12

end Cert.Cholec

end
-- ==== Proof.Closed.lean ====
module

public import Idealize.ShloMosaic.Lib.Pointwise

/-!
# What one batch element's scores are, in plain mathematics

The masks of one batch element are two families of integer pictures, `a` (32 predictions) and `b` (16 targets), each
256 by 256, read as zero or not zero. This module states the score of every pixel from them, over the extended reals,
and the facts about the quotients that both programs need: they guard a division in different ways, and the two guards
give one value because every dividend and divisor here is a nonnegative real.
-/

@[expose] public section

noncomputable section

open Idealize.ShloMosaic

namespace Cert.Cholec

/-- A value that is a real number at least zero. -/
def NN (x : EReal) : Prop := ∃ r : ℝ, 0 ≤ r ∧ x = (r : EReal)

/-- Zero is a nonnegative real. -/
theorem NN.zero : NN 0 := ⟨0, le_refl _, rfl⟩

/-- One is a nonnegative real. -/
theorem NN.one : NN 1 := ⟨1, zero_le_one, rfl⟩

/-- The sum of two nonnegative reals is one. -/
theorem NN.add {x y : EReal} (hx : NN x) (hy : NN y) : NN (x + y) := by
  obtain ⟨r, hr, rfl⟩ := hx
  obtain ⟨s, hs, rfl⟩ := hy
  exact ⟨r + s, add_nonneg hr hs, (EReal.coe_add r s).symm⟩

/-- The product of two nonnegative reals is one. -/
theorem NN.mul {x y : EReal} (hx : NN x) (hy : NN y) : NN (x * y) := by
  obtain ⟨r, hr, rfl⟩ := hx
  obtain ⟨s, hs, rfl⟩ := hy
  exact ⟨r * s, mul_nonneg hr hs, (EReal.coe_mul r s).symm⟩

/-- A nonnegative real is at least zero. -/
theorem NN.nonneg {x : EReal} (hx : NN x) : 0 ≤ x := by
  obtain ⟨r, hr, rfl⟩ := hx
  exact EReal.coe_nonneg.2 hr

/-- A sum of nonnegative reals is one. -/
theorem NN.sum {ι : Type*} (s : Finset ι) {f : ι → EReal} (h : ∀ i, NN (f i)) : NN (∑ i ∈ s, f i) := by
  classical
  induction s using Finset.induction_on with
  | empty => exact NN.zero
  | insert i s hi ih => rw [Finset.sum_insert hi]; exact (h i).add ih

/-- A sum of nonnegative reals that is zero has every term zero. -/
theorem NN.term_zero {ι : Type*} [Fintype ι] {f : ι → EReal} (h : ∀ i, NN (f i)) (h0 : ∑ i, f i = 0) (i : ι) :
    f i = 0 :=
  (Finset.sum_eq_zero_iff_of_nonneg (fun i _ => (h i).nonneg)).1 h0 i (Finset.mem_univ i)

/-- A quotient, taken to be zero where the divisor is not positive. -/
def guard (x y : EReal) : EReal := if 0 < y then Ideal.div x y else 0

/-- The guarded quotient of two nonnegative reals is one. -/
theorem NN.guard {x y : EReal} (hx : NN x) (hy : NN y) : NN (guard x y) := by
  unfold Cholec.guard
  split
  · rename_i h
    obtain ⟨r, hr, rfl⟩ := hx
    obtain ⟨s, hs, rfl⟩ := hy
    have hs' : (s : EReal) ≠ 0 := ne_of_gt h
    exact ⟨r * s⁻¹, mul_nonneg hr (inv_nonneg.2 hs), by
      rw [Ideal.div, if_neg hs', EReal.coe_mul, EReal.coe_inv]⟩
  · exact NN.zero

/-- The reference's guard: the quotient of two nonnegative reals where it is finite, else zero. It is `guard`, when
    the two are nonnegative reals: a quotient by zero is then infinite, so both are zero. -/
theorem finite_div {x y : EReal} (hx : NN x) (hy : NN y) :
    (if max (Ideal.div x y) (-Ideal.div x y) < ⊤ then Ideal.div x y else 0) = guard x y := by
  by_cases h : 0 < y
  · obtain ⟨r, hr, he⟩ := hx.guard hy
    have hd : Ideal.div x y = (r : EReal) := by rw [← he, Cholec.guard, if_pos h]
    rw [Cholec.guard, if_pos h, hd, if_pos]
    exact max_lt (EReal.coe_lt_top r) (by rw [← EReal.coe_neg]; exact EReal.coe_lt_top _)
  · have hy0 : y = 0 := le_antisymm (not_lt.1 h) hy.nonneg
    rw [Cholec.guard, if_neg h, hy0, Ideal.div, if_pos rfl, if_neg]
    split
    · simp
    · simp

/-- The kernel's guard: the divisor replaced by one where it is not positive, the quotient then dropped. -/
theorem select_div (x y : EReal) :
    Scalar.select (BitVec.ofBool (decide (0 < y))) (Ideal.div x (if 0 < y then y else 1)) 0 = guard x y := by
  by_cases h : 0 < y <;> simp [Cholec.guard, Scalar.select, h]

/-- The largest of a nonempty family of nonnegative reals, found by a fold from `⊥`, is one. -/
theorem NN.fold_max {n : Nat} {f : Fin (n + 1) → EReal} (h : ∀ i, NN (f i)) :
    NN (Finset.univ.fold max ⊥ f) := by
  have key : ∀ s : Finset (Fin (n + 1)), s.fold max ⊥ f = ⊥ ∨ NN (s.fold max ⊥ f) := by
    intro s
    induction s using Finset.induction_on with
    | empty => exact Or.inl rfl
    | insert i s hi ih =>
      rw [Finset.fold_insert hi]
      rcases ih with e | e
      · rw [e, max_bot_right]; exact Or.inr (h i)
      · rcases max_choice (f i) (s.fold max ⊥ f) with c | c <;> rw [c]
        · exact Or.inr (h i)
        · exact Or.inr e
  rcases key Finset.univ with e | e
  · have h0 : f 0 ≤ Finset.univ.fold max ⊥ f :=
      (Finset.le_fold_max (f 0)).2 (Or.inr ⟨0, Finset.mem_univ _, le_refl _⟩)
    rw [e, le_bot_iff] at h0
    obtain ⟨r, _, hr⟩ := h 0
    rw [h0] at hr
    exact absurd hr.symm (EReal.coe_ne_bot r)
  · exact e

/-! ## The score -/

/-- A mask element as a number: zero or one. -/
def bit (v : BitVec 32) : EReal := if v = 0#32 then 0 else 1

/-- A mask element is a nonnegative real. -/
theorem NN.bit (v : BitVec 32) : NN (bit v) := by
  unfold Cholec.bit
  split
  · exact NN.zero
  · exact NN.one

section

variable {np nt nh nw : Nat} (a : Fin np → Fin nh → Fin nw → BitVec 32) (b : Fin nt → Fin nh → Fin nw → BitVec 32)

/-- The number of pixels that lie in prediction `p` and in target `t`. -/
def inter (p : Fin np) (t : Fin nt) : EReal := ∑ h, ∑ w, bit (a p h w) * bit (b t h w)

/-- The number of pixels in target `t`. -/
def area (t : Fin nt) : EReal := ∑ h, ∑ w, bit (b t h w)

/-- A prediction's weight: the largest share of a target that it covers, an empty target counting as zero. -/
def weight (p : Fin np) : EReal := Finset.univ.fold max ⊥ fun t => guard (inter a b p t) (area b t)

/-- A pixel's score: the mean weight of the predictions that hold it, zero where none does. -/
def scoreAt (h : Fin nh) (w : Fin nw) : EReal :=
  guard (∑ p, bit (a p h w) * weight a b p) (∑ p, bit (a p h w))

/-- A count of shared pixels is a nonnegative real. -/
theorem NN.inter (p : Fin np) (t : Fin nt) : NN (inter a b p t) :=
  NN.sum _ fun _ => NN.sum _ fun _ => (NN.bit _).mul (NN.bit _)

/-- A target's area is a nonnegative real. -/
theorem NN.area (t : Fin nt) : NN (area b t) := NN.sum _ fun _ => NN.sum _ fun _ => NN.bit _

end

/-- A prediction's weight is a nonnegative real, there being a target. -/
theorem NN.weight {np nt nh nw : Nat} (a : Fin np → Fin nh → Fin nw → BitVec 32)
    (b : Fin (nt + 1) → Fin nh → Fin nw → BitVec 32) (p : Fin np) : NN (weight a b p) :=
  NN.fold_max fun t => (NN.inter a b p t).guard (NN.area b t)

end Cert.Cholec
-- ==== Proof.Chunk.lean ====
module

public import proofs.«01_k».proof.Proof.Buffers
public import proofs.«01_k».proof.Proof.Closed

/-!
# The accumulator of the row chunks

The kernel takes the 256 rows of the pictures in 32 chunks of 8 rows. Each chunk adds a product of two matrices to an
accumulator: the chunk's rows of all predictions, and the chunk's rows of all targets, multiplied along the columns.
This module states the accumulator after all chunks as a sum over the chunks and the columns.
-/

@[expose] public section

set_option maxRecDepth 16384

noncomputable section

namespace Cert.Cholec

open Cert.KernelIdeal Cert.KernelIdeal.Gen Idealize.ShloMosaic Idealize.ShloMosaic.TcCoe Idealize.SL.Sem

section

variable {F : FTy → Type} [FloatOps F]

/-- Rows `8n` to `8n + 7` lie within the 256 rows of the predictions. -/
theorem fit_gp (n : Nat) (h : n < 32) : S32x256x256.Slices ![0, 8 * n, 0] S32x8x256 :=
  ⟨rfl, fun a => by
    match a with
    | ⟨0, _⟩ => show 0 + 32 ≤ 32; omega
    | ⟨1, _⟩ => show 8 * n + 8 ≤ 256; omega
    | ⟨2, _⟩ => show 0 + 256 ≤ 256; omega⟩

/-- Rows `8n` to `8n + 7` lie within the 256 rows of the targets. -/
theorem fit_gt (n : Nat) (h : n < 32) : S16x256x256.Slices ![0, 8 * n, 0] S16x8x256 :=
  ⟨rfl, fun a => by
    match a with
    | ⟨0, _⟩ => show 0 + 16 ≤ 16; omega
    | ⟨1, _⟩ => show 8 * n + 8 ≤ 256; omega
    | ⟨2, _⟩ => show 0 + 256 ≤ 256; omega⟩

/-- The product that chunk `n` adds. -/
def chunk (gp : FVec F S32x256x256 .f32) (gt : FVec F S16x256x256 .f32) (n : Nat) (h : n < 32) : FVec F S256x128 .f32 :=
  matmul dot_S256x256_S128x256_S256x128_1_1_0_0_n_n none
    (truncf .bf16 (shapeCast S256x256 (extractStridedSlice S32x8x256 ![0, 8 * n, 0] gp (fit_gp n h))
      shapeCasts_S32x8x256_S256x256) bitsLt_bf16_f32)
    (truncf .bf16 (shapeCast S128x256 (extractStridedSlice S16x8x256 ![0, 8 * n, 0] gt (fit_gt n h))
      shapeCasts_S16x8x256_S128x256) bitsLt_bf16_f32)
    (constant S256x128 .f32 0x00000000#32)

/-- The accumulator before chunk `n`. -/
def accUpTo (gp : FVec F S32x256x256 .f32) (gt : FVec F S16x256x256 .f32) : (n : Nat) → n ≤ 32 → FVec F S256x128 .f32
  | 0, _ => broadcast S256x128 (Scalar.ofBits .f32 0x00000000#32)
  | n + 1, h => addf (accUpTo gp gt n (Nat.le_of_succ_le h)) (chunk gp gt n h)

/-- The kernel's accumulator is the one after 32 chunks. -/
theorem acc_eq (x0 : Vec F S1x32x256x256 .i32) (x1 : Vec F S1x16x256x256 .i32) :
    acc x0 x1 = accUpTo (k0_pay4 (F := F) x0) (k0_pay5 (F := F) x1) 32 (le_refl 32) := rfl

end

/-- Chunk `n`'s product at row `r` and lane `l`: the product along the columns of prediction `r / 8`'s row
    `8n + r % 8` and target `l / 8`'s row `8n + l % 8`. -/
theorem chunk_at (gp : FVec Ideal S32x256x256 .f32) (gt : FVec Ideal S16x256x256 .f32) (n : Nat) (h : n < 32)
    (p : Fin 32) (s : Fin 8) (t : Fin 16) (s' : Fin 8) :
    chunk gp gt n h (ix2 (⟨p.val * 8 + s.val, by omega⟩ : Fin 256) (⟨t.val * 8 + s'.val, by omega⟩ : Fin 128))
      = ∑ w : Fin 256, gp (ix3 p (⟨8 * n + s.val, by omega⟩ : Fin 256) w)
          * gt (ix3 t (⟨8 * n + s'.val, by omega⟩ : Fin 256) w) := by
  pointwise [chunk]

/-- The accumulator before chunk `n` at one element: the sum of the chunks before it. -/
theorem accUpTo_at (gp : FVec Ideal S32x256x256 .f32) (gt : FVec Ideal S16x256x256 .f32) (i : S256x128.Idx) :
    (n : Nat) → (h : n ≤ 32) →
      accUpTo gp gt n h i = ∑ c : Fin n, chunk gp gt c.val (Nat.lt_of_lt_of_le c.isLt h) i
  | 0, _ => by
    show Scalar.ofBits (F := Ideal) .f32 0x00000000#32 = _
    rw [Fin.sum_univ_zero]
    simp
  | n + 1, h => by
    rw [Fin.sum_univ_castSucc, accUpTo]
    show accUpTo gp gt n _ i + chunk gp gt n h i = _
    rw [accUpTo_at gp gt i n]
    rfl

/-- The accumulator's sum over a diagonal of a prediction's and a target's eight rows: the product of their two
    pictures, summed over every pixel. -/
theorem diagonal (x0 : Vec Ideal S1x32x256x256 .i32) (x1 : Vec Ideal S1x16x256x256 .i32) (p : Fin 32) (t : Fin 16) :
    ∑ s : Fin 8, acc (F := Ideal) x0 x1
        (ix2 (⟨p.val * 8 + s.val, by omega⟩ : Fin 256) (⟨t.val * 8 + s.val, by omega⟩ : Fin 128))
      = ∑ h : Fin 256, ∑ w : Fin 256,
          k0_pay4 (F := Ideal) x0 (ix3 p h w) * k0_pay5 (F := Ideal) x1 (ix3 t h w) := by
  rw [acc_eq]
  simp only [accUpTo_at, chunk_at]
  rw [Finset.sum_comm, Fin.sum_univ_tiles 32 8 rfl]
  refine Finset.sum_congr rfl fun c _ => Finset.sum_congr rfl fun s _ => ?_
  have e : (⟨8 * c.val + s.val, by omega⟩ : Fin 256) = ⟨c.val * 8 + s.val, by omega⟩ := Fin.ext (by simp; omega)
  rw [e]

end Cert.Cholec
-- ==== Proof.Weights.lean ====
module

public import proofs.«01_k».proof.Proof.Chunk

/-!
# The weights and the scores that the kernel computes

From the accumulator the kernel keeps the entries where the two row numbers agree within a chunk, and adds them up per
prediction and target. That is the number of pixels the two share, so the stored weights and the stored scores are the
ones `Closed` states.
-/

@[expose] public section

set_option maxRecDepth 16384

noncomputable section

namespace Cert.Cholec

open Cert.KernelIdeal Cert.KernelIdeal.Gen Idealize.ShloMosaic Idealize.ShloMosaic.TcCoe Idealize.SL.Sem

/-! ## The masks -/

/-- A truth value widened to an integer and converted to a float is one or zero. -/
theorem sitofp_bool (c : Bool) :
    FloatOps.sitofp (F := Ideal) .f32 (BitVec.setWidth 32 (BitVec.ofBool c)) = if c then (1 : EReal) else 0 := by
  cases c
  · show (((BitVec.toInt (BitVec.setWidth 32 (BitVec.ofBool false)) : ℤ) : ℝ) : EReal) = 0
    simp
  · show (((BitVec.toInt (BitVec.setWidth 32 (BitVec.ofBool true)) : ℤ) : ℝ) : EReal) = 1
    simp

/-- The kernel's mask conversion, at one integer. -/
theorem sitofp_ne_zero (v : BitVec 32) :
    FloatOps.sitofp (F := Ideal) .f32 (BitVec.setWidth 32 (IntOp.cmpi .ne v 0#32)) = bit v := by
  have e : IntOp.cmpi .ne v 0#32 = BitVec.ofBool (v != 0#32) := by simp [IntOp.cmpi]
  rw [e, sitofp_bool, bit]
  by_cases h : v = 0#32 <;> simp [h]

/-- The predictions' masks as the kernel holds them. -/
theorem pay4_at (x : Vec Ideal S1x32x256x256 .i32) (p : Fin 32) (h w : Fin 256) :
    k0_pay4 (F := Ideal) x (ix3 p h w) = bit (x (ix4 (0 : Fin 1) p h w)) := by
  pointwise [k0_pay4]
  exact sitofp_ne_zero _

/-- The targets' masks as the kernel holds them. -/
theorem pay5_at (x : Vec Ideal S1x16x256x256 .i32) (t : Fin 16) (h w : Fin 256) :
    k0_pay5 (F := Ideal) x (ix3 t h w) = bit (x (ix4 (0 : Fin 1) t h w)) := by
  pointwise [k0_pay5]
  exact sitofp_ne_zero _

/-! ## The integer index arithmetic -/

/-- The remainder by eight as the kernel computes it, with a correction for a negative remainder. -/
def rem8 (x : BitVec 32) : BitVec 32 :=
  Scalar.select
    (IntOp.andi
      (IntOp.xori
        (IntOp.cmpi .slt (IntOp.remsi ArithUnit.vector x (Scalar.select (Scalar.cmpi .eq 8#32 0#32) 1#32 8#32)) 0#32)
        (Scalar.cmpi .slt (Scalar.select (Scalar.cmpi .eq 8#32 0#32) 1#32 8#32) 0#32))
      (IntOp.cmpi .ne (IntOp.remsi ArithUnit.vector x (Scalar.select (Scalar.cmpi .eq 8#32 0#32) 1#32 8#32)) 0#32))
    (IntOp.addi (IntOp.remsi ArithUnit.vector x (Scalar.select (Scalar.cmpi .eq 8#32 0#32) 1#32 8#32))
      (Scalar.select (Scalar.cmpi .eq 8#32 0#32) 1#32 8#32))
    (IntOp.remsi ArithUnit.vector x (Scalar.select (Scalar.cmpi .eq 8#32 0#32) 1#32 8#32))

/-- The quotient by eight as the kernel computes it, with a correction for a negative dividend. -/
def quo8 (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 8#32 0#32)) (Scalar.extui (Scalar.cmpi .slt 8#32 0#32))))
      (IntOp.cmpi .ne (IntOp.remsi ArithUnit.vector x 8#32) 0#32))
    (IntOp.subi (IntOp.divsi ArithUnit.vector x 8#32) 1#32)
    (IntOp.divsi ArithUnit.vector x 8#32)

/-- On the row numbers it is the remainder. -/
theorem rem8_eq : ∀ r : Fin 256, rem8 (BitVec.ofNat 32 r.val) = BitVec.ofNat 32 (r.val % 8) := by decide +kernel

/-- On the lane numbers it is the quotient. -/
theorem quo8_eq : ∀ u : Fin 128, quo8 (BitVec.ofNat 32 u.val) = BitVec.ofNat 32 (u.val / 8) := by decide +kernel

/-- Two small numbers' words are equal just when they are. -/
theorem cmpi_eq_ofNat {a b : Nat} (ha : a < 2 ^ 32) (hb : b < 2 ^ 32) :
    IntOp.cmpi .eq (BitVec.ofNat 32 a) (BitVec.ofNat 32 b) = BitVec.ofBool (decide (a = b)) := by
  have e : BitVec.ofNat 32 a = BitVec.ofNat 32 b ↔ a = b := by
    rw [← BitVec.toNat_inj, BitVec.toNat_ofNat, BitVec.toNat_ofNat, Nat.mod_eq_of_lt ha, Nat.mod_eq_of_lt hb]
  have c : IntOp.cmpi .eq (BitVec.ofNat 32 a) (BitVec.ofNat 32 b)
      = BitVec.ofBool (BitVec.ofNat 32 a == BitVec.ofNat 32 b) := by simp [IntOp.cmpi]
  rw [c]
  congr 1
  rw [beq_eq_decide]
  exact decide_eq_decide.2 e

/-- The kept entries: those whose row and lane have one remainder by eight. -/
theorem pay18_at (r : Fin 256) (l : Fin 128) :
    k0_pay18 (ix2 r l) = BitVec.ofBool (decide (r.val % 8 = l.val % 8)) := by
  pointwise [k0_pay18]
  show IntOp.cmpi .eq (rem8 (BitVec.ofNat 32 r.val)) (rem8 (BitVec.ofNat 32 l.val)) = _
  rw [rem8_eq r, rem8_eq ⟨l.val, by omega⟩]
  exact cmpi_eq_ofNat (by omega) (by dsimp only; omega)

/-- The matrix that adds up eight neighbouring lanes: one where the lane belongs to the target. -/
theorem owner (u : Fin 128) (t : Fin 16) :
    FloatOps.sitofp (F := Ideal) .f32 (BitVec.setWidth 32
      (IntOp.cmpi .eq (quo8 (BitVec.ofNat 32 u.val)) (BitVec.ofNat 32 t.val)))
      = if u.val / 8 = t.val then (1 : EReal) else 0 := by
  rw [quo8_eq u, cmpi_eq_ofNat (by omega) (by omega), sitofp_bool]
  simp only [decide_eq_true_eq]

/-- Of the entries of a prediction's eight rows and all lanes, those with agreeing remainders and in the target's lanes
    add up to the diagonal. -/
theorem kept_sum (f : Fin 256 → Fin 128 → EReal) (p : Fin 32) (t : Fin 16) :
    ∑ u : Fin 128, (∑ r : Fin 8, Scalar.select
        (k0_pay18 (ix2 (⟨p.val * 8 + r.val, by omega⟩ : Fin 256) u)) (f ⟨p.val * 8 + r.val, by omega⟩ u) 0)
          * FloatOps.sitofp (F := Ideal) .f32 (BitVec.setWidth 32
              (IntOp.cmpi .eq (quo8 (BitVec.ofNat 32 u.val)) (BitVec.ofNat 32 t.val)))
      = ∑ s : Fin 8, f ⟨p.val * 8 + s.val, by omega⟩ ⟨t.val * 8 + s.val, by omega⟩ := by
  simp only [owner, pay18_at]
  rw [Fin.sum_univ_tiles 16 8 rfl, Finset.sum_eq_single t]
  · refine Finset.sum_congr rfl fun s _ => ?_
    rw [if_pos (by simp; omega), mul_one, Finset.sum_eq_single s]
    · simp [Scalar.select, Nat.add_mod]
    · intro r _ hr
      have : ¬ (p.val * 8 + r.val) % 8 = (t.val * 8 + s.val) % 8 := fun e => hr (Fin.ext (by omega))
      simp only [Scalar.select, decide_eq_false this]
      rfl
    · exact fun h => absurd (Finset.mem_univ _) h
  · intro t' _ ht
    refine Finset.sum_eq_zero fun s _ => ?_
    have : ¬ (t'.val * 8 + s.val) / 8 = t.val := fun e => ht (Fin.ext (by omega))
    rw [if_neg this, mul_zero]
  · exact fun h => absurd (Finset.mem_univ _) h

/-! ## The quotients, the weights and the scores -/

section

variable (x0 : Vec Ideal S1x32x256x256 .i32) (x1 : Vec Ideal S1x16x256x256 .i32)

/-- The prediction pictures of a block. -/
def preds : Fin 32 → Fin 256 → Fin 256 → BitVec 32 := fun p h w => x0 (ix4 (0 : Fin 1) p h w)

/-- The target pictures of a block. -/
def targets : Fin 16 → Fin 256 → Fin 256 → BitVec 32 := fun t h w => x1 (ix4 (0 : Fin 1) t h w)

/-- The targets' areas as the kernel sums them. -/
theorem area_sum (t : Fin 16) :
    ∑ h : Fin 256, ∑ w : Fin 256, k0_pay5 (F := Ideal) x1 (ix3 t h w) = area (targets x1) t := by
  simp only [pay5_at]; rfl

/-- A target is not empty, as the kernel tests it. -/
theorem pay21_at (t : Fin 16) :
    k0_pay21 (F := Ideal) (k0_pay5 x1) (ix2 (0 : Fin 1) t) = BitVec.ofBool (decide (0 < area (targets x1) t)) := by
  rw [← area_sum]
  pointwise [k0_pay21, k0_pay19]

/-- The kernel's quotients: the shared pixels over the target's, the divisor one for an empty target. -/
theorem pay20_at (p : Fin 32) (t : Fin 16) :
    k0_pay20 (F := Ideal) (k0_pay5 x1) (acc x0 x1) k0_pay18 (Scalar.ofBits .f32 0x00000000#32) (ix2 p t)
      = Ideal.div (inter (preds x0) (targets x1) p t)
          (if 0 < area (targets x1) t then area (targets x1) t else 1) := by
  have e : inter (preds x0) (targets x1) p t
      = ∑ h : Fin 256, ∑ w : Fin 256, k0_pay4 (F := Ideal) x0 (ix3 p h w) * k0_pay5 (F := Ideal) x1 (ix3 t h w) := by
    simp only [pay4_at, pay5_at]; rfl
  rw [e, ← diagonal, ← area_sum, ← kept_sum (fun r l => acc (F := Ideal) x0 x1 (ix2 r l)) p t]
  generalize acc (F := Ideal) x0 x1 = a
  generalize k0_pay5 (F := Ideal) x1 = v
  generalize k0_pay18 = b
  unfold quo8
  pointwise [k0_pay20, k0_pay19]

/-- The stored weights: row by row, each prediction's weight. -/
theorem wts_at (r : Fin 8) (p : Fin 32) :
    wts (F := Ideal) x0 x1 (ix2 r p) = weight (preds x0) (targets x1) p := by
  have hb : (Ideal.ofBits .f32 4286578688#32 : EReal) = ⊥ := by simp [Ideal.ofBits, Ideal.ieee]
  unfold wts weight
  simp only [← select_div, ← pay20_at, ← pay21_at]
  generalize k0_pay20 (F := Ideal) _ _ _ _ = q
  generalize k0_pay21 (F := Ideal) _ = b
  rw [← hb]
  pointwise [k0_pay3]

/-- The scores that one grid point stores. -/
theorem score_at (h w : Fin 256) :
    k0_pay1 (F := Ideal) (k0_pay2 (k0_pay4 x0)) (row0 (wts x0 x1)) (ix3 (0 : Fin 1) h w)
      = scoreAt (preds x0) (targets x1) h w := by
  have ew : ∀ p : Fin 32, row0 (F := Ideal) (wts x0 x1) (ix2 (0 : Fin 1) p) = weight (preds x0) (targets x1) p :=
    fun p => wts_at x0 x1 0 p
  have ep : ∀ p : Fin 32, k0_pay2 (F := Ideal) (k0_pay4 x0) (ix3 p h w) = bit (preds x0 p h w) := fun p => by
    have := pay4_at x0 p h w
    pointwise [k0_pay2]
    exact this
  unfold scoreAt Cholec.guard
  simp only [← ew, ← ep]
  generalize row0 (F := Ideal) (wts x0 x1) = u
  generalize k0_pay2 (F := Ideal) (k0_pay4 x0) = v
  pointwise [k0_pay1]

end

end Cert.Cholec
-- ==== Proof.Reference.lean ====
module

public import proofs.«01_k».proof.Proof.Closed
public import proofs.«01_k».proof.Proof.Gen.ReferenceIdeal.Run

/-!
# What the reference computes

The reference's result at one pixel is the score that `Closed` states, of the pixel's batch element.
-/

@[expose] public section

set_option maxRecDepth 16384

noncomputable section

namespace Cert.Cholec

open Cert.ReferenceIdeal Cert.ReferenceIdeal.Gen Cert.ReferenceIdeal.Value
open Idealize.ShloMosaic Idealize.ShloMosaic.TcCoe Idealize.SL.Sem

/-- The sum over the last two axes, named in falling order, at one element. -/
theorem sum_rows_cols (r : S8x16x256x256.ReducesTo [3, 2] S8x16) (v : S8x16x256x256.Idx → EReal) (init : EReal)
    (n : Fin 8) (t : Fin 16) :
    Ideal.hostReduceAdd r v init (ix2 n t) = init + ∑ h : Fin 256, ∑ w : Fin 256, v (ix4 n t h w) := by
  have r' : S8x16x256x256.ReducesTo [2, 3] S8x16 := by decide
  have e : Ideal.hostReduceAdd r v init = Ideal.hostReduceAdd r' v init := rfl
  rw [e]
  pointwise

/-- The reference's mask conversion, at one integer. -/
theorem uitofp_ne_zero (v : BitVec 32) : FloatOps.uitofp (F := Ideal) .f32 (IntOp.cmpi .ne v 0#32) = bit v := by
  have e : IntOp.cmpi .ne v 0#32 = BitVec.ofBool (v != 0#32) := by simp [IntOp.cmpi]
  rw [e, bit]
  show (((BitVec.toNat (BitVec.ofBool (v != 0#32)) : ℕ) : ℝ) : EReal) = _
  by_cases h : v = 0#32 <;> simp [h]

/-- The reference's guarded quotient: the quotient where it is finite, else zero. -/
def finiteDiv (x y : EReal) : EReal :=
  if FloatOps.absf (F := Ideal) (φ := .f32) (Ideal.div x y) < (⊤ : EReal) then Ideal.div x y else 0

/-- It is the quotient guarded by its divisor's sign, for nonnegative reals. -/
theorem finiteDiv_eq {x y : EReal} (hx : NN x) (hy : NN y) : finiteDiv x y = guard x y := finite_div hx hy

/-- A pixel's score with the reference's guards. -/
theorem score_finite {nt : Nat} {np nh nw : Nat} (a : Fin np → Fin nh → Fin nw → BitVec 32)
    (b : Fin (nt + 1) → Fin nh → Fin nw → BitVec 32) (h : Fin nh) (w : Fin nw) :
    finiteDiv (∑ p, bit (a p h w) * Finset.univ.fold max ⊥ fun t => finiteDiv (inter a b p t) (area b t))
        (∑ p, bit (a p h w))
      = scoreAt a b h w := by
  have e : ∀ p t, finiteDiv (inter a b p t) (area b t) = guard (inter a b p t) (area b t) :=
    fun p t => finiteDiv_eq (NN.inter a b p t) (NN.area b t)
  simp only [e]
  exact finiteDiv_eq (NN.sum _ fun p => (NN.bit _).mul (NN.weight a b p)) (NN.sum _ fun p => NN.bit _)

/-- The reference's result at one pixel. -/
theorem res_at (m : (ℓ : Loc nD τ sig) → Buf (Elt Ideal) ℓ) (c : Dev nD) (n : Fin 8) (h w : Fin 256) :
    res_main_v22 (F := Ideal) m c (ix3 n h w)
      = scoreAt (fun p h w => m (c.tc.loc main_arg0) (ix4 n p h w)) (fun t h w => m (c.tc.loc main_arg1) (ix4 n t h w))
          h w := by
  have ht : (Ideal.ofBits .f32 0x7F800000#32 : EReal) = ⊤ := by simp [Ideal.ofBits, Ideal.ieee]
  have hb : (Ideal.ofBits .f32 0xFF800000#32 : EReal) = ⊥ := by simp [Ideal.ofBits, Ideal.ieee]
  have hz : id (constant (F := Ideal) S_ FTy.f32 0#32) ix0 = (0 : EReal) := by
    show (Ideal.ofBits .f32 0#32 : EReal) = 0
    simp [Ideal.ofBits, Ideal.ieee]
  rw [← score_finite (nt := 15)]
  pointwise [res_main_v22]
  simp only [sum_rows_cols]
  pointwise
  simp only [uitofp_ne_zero, ht, hb, hz]
  simp only [finiteDiv, inter, area]

end Cert.Cholec
-- ==== Proof.Equation.lean ====
module

public import proofs.«01_k».proof.Proof.Final
public import proofs.«01_k».proof.Proof.Weights
public import proofs.«01_k».proof.Proof.Reference

/-!
# The two programs' results are equal

Both results hold, at each pixel of each batch element, the score that `Closed` states.
-/

@[expose] public section

set_option maxRecDepth 16384

noncomputable section

namespace Cert.Cholec

open Idealize.ShloMosaic Idealize.ShloMosaic.TcCoe Idealize.SL.Sem

/-- The kernel's result at one pixel. -/
theorem result_at (A : Vec Ideal Cert.KernelIdeal.S8x32x256x256 .i32) (B : Vec Ideal Cert.KernelIdeal.S8x16x256x256 .i32)
    (n : Fin 8) (h w : Fin 256) :
    result (F := Ideal) A B (ix3 n h w)
      = scoreAt (fun p h w => A (ix4 n p h w)) (fun t h w => B (ix4 n t h w)) h w :=
  score_at (gpBlk A n) (gtBlk B n) h w

/-- The reference's result array is the kernel's of the same arguments. -/
theorem reference_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v22 (F := Ideal) m c
      = result (F := Ideal) (m (c.tc.loc Cert.ReferenceIdeal.main_arg0)) (m (c.tc.loc Cert.ReferenceIdeal.main_arg1)) := by
  funext j
  idx_vars j
  rw [res_at, result_at]

end Cert.Cholec
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem Cert.Kernel

/-- The five claims. The kernel's frames are the generated ones; the reference's is read off its run, which uses no
    semaphore. The idealized kernel rewrites nothing. The value claim takes the kernel's final array
    (`Cert.Cholec.final`) as the common result, which the reference's equals (`Cert.Cholec.reference_eq`). -/
theorem claim : Cert.Claim := by
  refine ⟨Cert.Kernel.Gen.facts, Cert.KernelIdeal.Gen.facts, Cert.ReferenceIdeal.Gen.facts,
    fun m ρ _ => Cert.Kernel.Gen.frame m ρ, fun m ρ _ => Cert.KernelIdeal.Gen.frame m ρ, ?_, trivial, ?_⟩
  · intro m ρ _
    exact (θ_run Cert.ReferenceIdeal.defs _ _).mono (fun r h => ⟨fun c => (h c).2,
        Idealize.ShloMosaic.sem_eq_zero_of_no_sems (by decide) r.2⟩)
      (Cert.ReferenceIdeal.Value.run (F := Ideal) m ρ)
  · intro m g m' g' _ hagree
    refine ⟨fun c => Cert.Cholec.result (m (c.tc.loc Cert.KernelIdeal.main_arg0))
      (m (c.tc.loc Cert.KernelIdeal.main_arg1)), ?_, ?_⟩
    · exact (θ_run Cert.KernelIdeal.defs _ _).mono
        (fun r h c => ⟨(h c).1.trans (Cert.Cholec.final m c), (h c).2⟩) (Cert.KernelIdeal.Value.run_blocks (F := Ideal) m g)
    · refine (θ_run Cert.ReferenceIdeal.defs _ _).mono (fun r h c => ⟨?_, (h c).2⟩)
        (Cert.ReferenceIdeal.Value.run (F := Ideal) m' g')
      rw [(h c).1, Cert.Cholec.reference_eq, (hagree c).1, (hagree c).2]

end Cert.Proof

end
